-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S32768x64 : Shape := ⟨2, ![32768, 64]⟩
abbrev S1024x64 : Shape := ⟨2, ![1024, 64]⟩
abbrev S_ : Shape := ⟨0, ![]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩

class Facts : Prop where
  reducesTo_S32768x64_S32768_d1 : S32768x64.ReducesTo [1] S32768
  h_S_ : 0 < S_.numel
  bcast_S32768_S32768x1_0 : S32768.BroadcastsInDim S32768x1 (![0] : Fin 1 → Fin S32768x1.rank)
  transposes_S1024x64_S64x1024_1_0 : S1024x64.Transposes [1, 0] S64x1024
  bcast_S_S32768x1024 : S_.BroadcastsInDim S32768x1024 (![] : Fin 0 → Fin S32768x1024.rank)
  bcast_S32768x1_S32768x1024_0_1 : S32768x1.BroadcastsInDim S32768x1024 (![0, 1] : Fin 2 → Fin S32768x1024.rank)
  reducesTo_S1024x64_S1024_d1 : S1024x64.ReducesTo [1] S1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  reducesTo_S32768x1024_S32768_d1 : S32768x1024.ReducesTo [1] S32768
  natLt_1_32 : 1 < 32
  bcast_S_S32768 : S_.BroadcastsInDim S32768 (![] : Fin 0 → Fin S32768.rank)
  reducesTo_S32768_S_d0 : S32768.ReducesTo [0] S_
  bcast_S_S32768x64 : S_.BroadcastsInDim S32768x64 (![] : Fin 0 → Fin S32768x64.rank)
  reducesTo_S32768x64_S_d0_1 : S32768x64.ReducesTo [0, 1] S_
  dot_S32768x64_S64x1024_S32768x1024_1_0_0_1_n_n_wf : DotDims.WF S32768x64 S64x1024 S32768x1024 [1] [0] [0] [1] [] []

variable [Facts]

def dot_S32768x64_S64x1024_S32768x1024_1_0_0_1_n_n : DotDims S32768x64 S64x1024 S32768x1024 where
  lhsContracting := [1]
  rhsContracting := [0]
  lhsNonContracting := [0]
  rhsNonContracting := [1]
  lhsBatch := []
  rhsBatch := []
  wf := dot_S32768x64_S64x1024_S32768x1024_1_0_0_1_n_n_wf
def fn_part1 {F : FTy → Type} [FloatOps F] (main_arg0 : FVec F S32768x64 .f32) (main_v18 : IVec S32768x1024 32) (main_c : IVec S_ 32) : IVec S_ 1 :=
  let main_v19 : IVec S32768 32 := (fun x v => Host.reduce IntOp.addi x v reducesTo_S32768x1024_S32768_d1 h_S_) main_v18 main_c
  let main_c_3 : IVec S_ 32 := constantI S_ 32 1#32
  let main_v20 : IVec S32768 32 := broadcastInDim S32768 ![] bcast_S_S32768 main_c_3
  let main_v21 : IVec S32768 1 := cmpi .eq main_v19 main_v20
  let main_c_4 : IVec S_ 1 := constantI S_ 1 1#1
  let main_v22 : IVec S_ 1 := (fun x v => Host.reduce IntOp.andi x v reducesTo_S32768_S_d0 h_S_) main_v21 main_c_4
  let main_v23 : FVec F S32768x64 .f32 := Host.absf main_arg0
  let main_cst_5 : FVec F S_ .f32 := constant S_ .f32 0x7F800000#32
  let main_v24 : FVec F S32768x64 .f32 := broadcastInDim S32768x64 ![] bcast_S_S32768x64 main_cst_5
  let main_v25 : IVec S32768x64 1 := cmpf .olt main_v23 main_v24
  let main_c_6 : IVec S_ 1 := constantI S_ 1 1#1
  let main_v26 : IVec S_ 1 := (fun x v => Host.reduce IntOp.andi x v reducesTo_S32768x64_S_d0_1 h_S_) main_v25 main_c_6
  let main_v27 : IVec S_ 1 := andi main_v22 main_v26
  main_v27

def fn {F : FTy → Type} [FloatOps F] (main_arg0 : FVec F S32768x64 .f32) (main_arg1 : FVec F S1024x64 .f32) : IVec S_ 1 :=
  let main_v0 : FVec F S32768x64 .f32 := mulf main_arg0 main_arg0
  let main_cst : FVec F S_ .f32 := constant S_ .f32 0x00000000#32
  let main_v1 : FVec F S32768 .f32 := (fun x v => Host.reduceAdd x v reducesTo_S32768x64_S32768_d1 h_S_) main_v0 main_cst
  let main_v2 : FVec F S32768x1 .f32 := broadcastInDim S32768x1 ![0] bcast_S32768_S32768x1_0 main_v1
  let main_v3 : FVec F S64x1024 .f32 := (transpose S64x1024 [1, 0] · transposes_S1024x64_S64x1024_1_0) main_arg1
  let main_v4 : FVec F S32768x1024 .f32 := (fun l r => Host.dotGeneral dot_S32768x64_S64x1024_S32768x1024_1_0_0_1_n_n none l r) main_arg0 main_v3
  let main_cst_0 : FVec F S_ .f32 := constant S_ .f32 0x40000000#32
  let main_v5 : FVec F S32768x1024 .f32 := broadcastInDim S32768x1024 ![] bcast_S_S32768x1024 main_cst_0
  let main_v6 : FVec F S32768x1024 .f32 := mulf main_v5 main_v4
  let main_v7 : FVec F S32768x1024 .f32 := broadcastInDim S32768x1024 ![0, 1] bcast_S32768x1_S32768x1024_0_1 main_v2
  let main_v8 : FVec F S32768x1024 .f32 := subf main_v7 main_v6
  let main_v9 : FVec F S1024x64 .f32 := mulf main_arg1 main_arg1
  let main_cst_1 : FVec F S_ .f32 := constant S_ .f32 0x00000000#32
  let main_v10 : FVec F S1024 .f32 := (fun x v => Host.reduceAdd x v reducesTo_S1024x64_S1024_d1 h_S_) main_v9 main_cst_1
  let main_v11 : FVec F S1x1024 .f32 := broadcastInDim S1x1024 ![1] bcast_S1024_S1x1024_1 main_v10
  let main_v12 : FVec F S32768x1024 .f32 := broadcastInDim S32768x1024 ![0, 1] bcast_S1x1024_S32768x1024_0_1 main_v11
  let main_v13 : FVec F S32768x1024 .f32 := addf main_v8 main_v12
  let main_cst_2 : FVec F S_ .f32 := constant S_ .f32 0x7F800000#32
  let main_v14 : FVec F S32768 .f32 := (fun x v => Host.reduce FloatOps.minimumf x v reducesTo_S32768x1024_S32768_d1 h_S_) main_v13 main_cst_2
  let main_v15 : FVec F S32768x1 .f32 := broadcastInDim S32768x1 ![0] bcast_S32768_S32768x1_0 main_v14
  let main_v16 : FVec F S32768x1024 .f32 := broadcastInDim S32768x1024 ![0, 1] bcast_S32768x1_S32768x1024_0_1 main_v15
  let main_v17 : IVec S32768x1024 1 := cmpf .oeq main_v13 main_v16
  let main_v18 : IVec S32768x1024 32 := (extui 32 · natLt_1_32) main_v17
  let main_c : IVec S_ 32 := constantI S_ 32 0#32
  fn_part1 (F := F) main_arg0 main_v18 main_c
-- ==== Kernel.lean ====
abbrev S32768x64 : Shape := ⟨2, ![32768, 64]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S32768 : Shape := ⟨1, ![32768]⟩
abbrev S4x1x128 : Shape := ⟨3, ![4, 1, 128]⟩
abbrev S4x1x1 : Shape := ⟨3, ![4, 1, 1]⟩
abbrev S4 : Shape := ⟨1, ![4]⟩
abbrev S8192x64 : Shape := ⟨2, ![8192, 64]⟩
abbrev S8192 : Shape := ⟨1, ![8192]⟩
abbrev S1x1x128 : Shape := ⟨3, ![1, 1, 128]⟩
abbrev S8192x1 : Shape := ⟨2, ![8192, 1]⟩
abbrev S8192x1024 : Shape := ⟨2, ![8192, 1024]⟩
abbrev S1x8192x64 : Shape := ⟨3, ![1, 8192, 64]⟩
abbrev S1 : Shape := ⟨1, ![1]⟩
abbrev S1x1x1 : Shape := ⟨3, ![1, 1, 1]⟩

abbrev nBuf : Space → Nat
  | .hbm => 50
  | .vmem => 10
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S1024x64, .f32⟩
  | .hbm, ⟨3, _⟩ => ⟨S_, .f32⟩
  | .hbm, ⟨4, _⟩ => ⟨S1024, .f32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x64, .f32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024, .f32⟩
  | .hbm, ⟨37, _⟩ => ⟨S1x1024, .f32⟩
  | .hbm, ⟨38, _⟩ => ⟨S32768x64, .f32⟩
  | .hbm, ⟨39, _⟩ => ⟨S32768, .i32⟩
  | .hbm, ⟨40, _⟩ => ⟨S4x1x128, .f32⟩
  | .hbm, ⟨41, _⟩ => ⟨S4x1x1, .f32⟩
  | .hbm, ⟨42, _⟩ => ⟨S4, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S1024x64, .f32⟩
  | .local _ .vmem, ⟨3, _⟩ => ⟨S1x1024, .f32⟩
  | .local _ .vmem, ⟨4, _⟩ => ⟨S8192x64, .f32⟩
  | .local _ .vmem, ⟨5, _⟩ => ⟨S8192x64, .f32⟩
  | .local _ .vmem, ⟨6, _⟩ => ⟨S8192, .i32⟩
  | .local _ .vmem, ⟨7, _⟩ => ⟨S8192, .i32⟩
  | .local _ .vmem, ⟨8, _⟩ => ⟨S1x1x128, .f32⟩
  | .local _ .vmem, ⟨9, _⟩ => ⟨S1x1x128, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_v3 : Ref sig .tc := ⟨.hbm, 7, rfl⟩
abbrev main_call0_v4 : Ref sig .tc := ⟨.hbm, 8, rfl⟩
abbrev main_call0_c_0 : Ref sig .tc := ⟨.hbm, 9, rfl⟩
abbrev main_call0_v5 : Ref sig .tc := ⟨.hbm, 10, rfl⟩
abbrev main_call0_v6 : Ref sig .tc := ⟨.hbm, 11, rfl⟩
abbrev main_call0_c_1 : Ref sig .tc := ⟨.hbm, 12, rfl⟩
abbrev main_call0_v7 : Ref sig .tc := ⟨.hbm, 13, rfl⟩
abbrev main_call0_v8 : Ref sig .tc := ⟨.hbm, 14, rfl⟩
abbrev main_call0_c_2 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_c_4 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_c_5 : Ref sig .tc := ⟨.hbm, 28, rfl⟩
abbrev main_call0_v19 : Ref sig .tc := ⟨.hbm, 29, rfl⟩
abbrev main_call0_v20 : Ref sig .tc := ⟨.hbm, 30, rfl⟩
abbrev main_call0_c_6 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_v0_0 : Ref sig .tc := ⟨.hbm, 38, rfl⟩
abbrev main_v0_2 : Ref sig .tc := ⟨.hbm, 39, rfl⟩
abbrev main_call0_v27_2 : Ref sig .tc := ⟨.hbm, 40, rfl⟩
abbrev main_call0_v28 : Ref sig .tc := ⟨.hbm, 41, rfl⟩
abbrev main_call0_v29 : Ref sig .tc := ⟨.hbm, 42, rfl⟩
abbrev main_call0_cst_7 : Ref sig .tc := ⟨.hbm, 43, rfl⟩
abbrev main_call0_v30 : Ref sig .tc := ⟨.hbm, 44, rfl⟩
abbrev main_call0_cst_8 : Ref sig .tc := ⟨.hbm, 45, rfl⟩
abbrev main_call0_v31 : Ref sig .tc := ⟨.hbm, 46, rfl⟩
abbrev main_call0_cst_9 : Ref sig .tc := ⟨.hbm, 47, rfl⟩
abbrev main_call0_v32 : Ref sig .tc := ⟨.hbm, 48, rfl⟩
abbrev main_v0_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x64 : Shape := ⟨2, ![32768, 64]⟩
abbrev S1024x64 : Shape := ⟨2, ![1024, 64]⟩
abbrev S_ : Shape := ⟨0, ![]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 64
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S32768x64, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S64x1024, .f32⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S1024x64, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1024, .i32⟩
  | .hbm, ⟨20, _⟩ => ⟨S_, .f32⟩
  | .hbm, ⟨21, _⟩ => ⟨S_, .i32⟩
  | .hbm, ⟨22, _⟩ => ⟨S32768, .f32⟩
  | .hbm, ⟨23, _⟩ => ⟨S32768, .i32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S_, .i32⟩
  | .hbm, ⟨28, _⟩ => ⟨S32768, .i32⟩
  | .hbm, ⟨29, _⟩ => ⟨S32768, .i32⟩
  | .hbm, ⟨30, _⟩ => ⟨S32768, .i32⟩
  | .hbm, ⟨31, _⟩ => ⟨S32768x1, .i32⟩
  | .hbm, ⟨32, _⟩ => ⟨S1, .i32⟩
  | .hbm, ⟨33, _⟩ => ⟨S_, .i32⟩
  | .hbm, ⟨34, _⟩ => ⟨S32768x1, .i32⟩
  | .hbm, ⟨35, _⟩ => ⟨S32768x1, .i1⟩
  | .hbm, ⟨36, _⟩ => ⟨S1x1, .i32⟩
  | .hbm, ⟨37, _⟩ => ⟨S32768x1, .i32⟩
  | .hbm, ⟨38, _⟩ => ⟨S32768x1, .i1⟩
  | .hbm, ⟨39, _⟩ => ⟨S32768x1, .i1⟩
  | .hbm, ⟨40, _⟩ => ⟨S_, .i1⟩
  | .hbm, ⟨41, _⟩ => ⟨S32768, .i1⟩
  | .hbm, ⟨42, _⟩ => ⟨S32768x64, .f32⟩
  | .hbm, ⟨43, _⟩ => ⟨S32768x64, .i1⟩
  | .hbm, ⟨44, _⟩ => ⟨S_, .f32⟩
  | .hbm, ⟨45, _⟩ => ⟨S32768x64, .f32⟩
  | .hbm, ⟨46, _⟩ => ⟨S32768x64, .f32⟩
  | .hbm, ⟨47, _⟩ => ⟨S32768x64, .f32⟩
  | .hbm, ⟨48, _⟩ => ⟨S32768x64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S32768x64, .f32⟩
  | .hbm, ⟨54, _⟩ => ⟨S32768x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S32768x64, .f32⟩
  | .hbm, ⟨63, _⟩ => ⟨S32768x64, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_cst_5 : Ref sig .tc := ⟨.hbm, 57, rfl⟩
abbrev main_v23 : Ref sig .tc := ⟨.hbm, 58, rfl⟩
abbrev main_cst_6 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩

abbrev nD : Nat := 1
abbrev τ : Topo := Topo.v7x

variable {F : FTy → Type} [FloatOps F]
-- ==== Proof.Nearest.lean ====
/- The arithmetic of a nearest-code search, apart from any program: the squared distance from a row to a code, what it
   means for one code to be the nearest, the order in which the kernel lays the codes out, and what the two ways of
   finding a least entry (the kernel's indexed minimum along a row, the reference's fold over pairs) return when one
   entry is strictly the least. -/
module

public import Idealize.ShloMosaic.Lib.Pointwise
public import Idealize.ShloMosaic.PureOps.Reduce
public import Idealize.ShloMosaic.PureOps.Ideal.Laws
public import Idealize.ShloMosaic.Lib.StableHlo.Predicate

@[expose] public section

noncomputable section

namespace Cert.Vq

open Idealize.ShloMosaic

/-! ## Distances and the nearest code -/

/-- The squared distance from the row `x` to the code `e`, expanded as the programs compute it:
    `∑ xₖ² − 2 · ∑ xₖ eₖ + ∑ eₖ²`. -/
def gap (x e : Fin 64 → EReal) : EReal :=
  (∑ k, x k * x k) - Ideal.ofBits .f32 0x40000000#32 * (∑ k, x k * e k) + ∑ k, e k * e k

/-- `q` is strictly the least entry of `d`: every other entry is greater. -/
def Least {n : Nat} (d : Fin n → EReal) (q : Fin n) : Prop := ∀ p, p ≠ q → d q < d p

/-- A strictly least entry is the only one. -/
theorem Least.unique {n : Nat} {d : Fin n → EReal} {q q' : Fin n} (h : Least d q) (h' : Least d q') : q = q' := by
  by_contra hne
  exact lt_asymm (h q' (Ne.symm hne)) (h' q hne)

/-- Where exactly one entry attains the lower bound `b` of all entries, that entry is strictly the least. -/
theorem least_of_card_eq_one {n : Nat} (d : Fin n → EReal) (b : EReal) (hb : ∀ p, b ≤ d p)
    (h1 : (Finset.univ.filter fun p => d p = b).card = 1) : ∃ q, Least d q := by
  obtain ⟨q, hq⟩ := Finset.card_eq_one.1 h1
  have mem : ∀ p, d p = b ↔ p = q := fun p => by
    have := Finset.ext_iff.1 hq p
    simpa using this
  refine ⟨q, fun p hp => ?_⟩
  rw [(mem q).2 rfl]
  exact lt_of_le_of_ne (hb p) fun e => hp ((mem p).1 e.symm)

/-! ## The order of the permuted codebook -/

/-- The number of the code that stands at place `p` of the permuted codebook. -/
def code (p : Fin 1024) : Fin 1024 := ⟨(127 - p.val % 128) * 8 + p.val / 128, by omega⟩

/-- The place of code `j` in the permuted codebook. -/
def place (j : Fin 1024) : Fin 1024 := ⟨(127 - j.val / 8) + 128 * (j.val % 8), by omega⟩

/-- The code at the place of `j` is `j`. -/
theorem code_place (j : Fin 1024) : code (place j) = j := by
  apply Fin.ext; show (127 - ((127 - j.val / 8) + 128 * (j.val % 8)) % 128) * 8 + ((127 - j.val / 8) + 128 * (j.val % 8)) / 128 = j.val
  omega

/-- The place of the code at `p` is `p`. -/
theorem place_code (p : Fin 1024) : place (code p) = p := by
  apply Fin.ext; show (127 - ((127 - p.val % 128) * 8 + p.val / 128) / 8) + 128 * (((127 - p.val % 128) * 8 + p.val / 128) % 8) = p.val
  omega

/-- If code `q` is strictly nearest in the codebook's order, its place is strictly least in the permuted order. -/
theorem Least.permuted {d : Fin 1024 → EReal} {q : Fin 1024} (h : Least d q) : Least (fun p => d (code p)) (place q) := by
  intro p hp
  show d (code (place q)) < d (code p)
  rw [code_place]
  exact h _ fun e => hp (by rw [← e, place_code])

/-- The words that compute a code's number from its place: `(127 − (p & 127)) · 8 + (p >> 7)`. -/
theorem code_word (u : ArithUnit) (p : Fin 1024) :
    IntOp.addi (IntOp.muli (IntOp.subi 127#32 (IntOp.andi (BitVec.ofNat 32 p.val) 127#32)) 8#32)
      (IntOp.shrsi u (BitVec.ofNat 32 p.val) 7#32) = BitVec.ofNat 32 (code p).val := by
  cases u <;> revert p <;> decide +kernel

/-- A word that counts less than 2³¹ is not negative, so raising negatives leaves it. -/
theorem wrap_word (n : Nat) (hn : n < 2 ^ 31) (a : BitVec 32) :
    Scalar.select (IntOp.cmpi .slt (BitVec.ofNat 32 n) 0#32) a (BitVec.ofNat 32 n) = BitVec.ofNat 32 n := by
  have : IntOp.cmpi .slt (BitVec.ofNat 32 n) 0#32 = 0#1 := by
    show BitVec.ofBool ((BitVec.ofNat 32 n).slt 0#32) = 0#1
    have : (BitVec.ofNat 32 n).slt 0#32 = false := by
      simp only [BitVec.slt, StableHlo.Predicate.toInt_ofNat_small n hn]; simp
    rw [this]; rfl
  rw [this]; rfl

/-! ## The kernel's indexed minimum -/

/-- Along a row whose entry `q` is strictly the least, the indexed minimum is the word of `q`. -/
theorem reduceIndex_least {A B : Nat} (h : (⟨2, ![A, B]⟩ : Shape).Reduces [1] ⟨1, ![A]⟩)
    (x : (⟨2, ![A, B]⟩ : Shape).Idx → EReal) (i : Fin A) (q : Fin B) (hq : Least (fun p => x (ix2 i p)) q) :
    Ideal.reduceIndex .argMin 1 h x (ix1 i) = BitVec.ofNat 32 q.val := by
  classical
  have hdrop : ∀ (a : Fin A) (b : Fin B), h.drop (ix2 a b) = ix1 i ↔ a = i := by
    intro a b
    have hv : (h.drop (ix2 a b) 0 : Nat) = a := Shape.Reduces.drop_apply_val h (ix2 a b) 0
    constructor
    · intro e; rw [e] at hv; exact Fin.ext hv.symm
    · intro e; funext c; have hc : c = 0 := Subsingleton.elim _ _; subst hc; exact Fin.ext (by rw [hv, e]; rfl)
  unfold Ideal.reduceIndex
  refine (congrArg (fun S : Finset ℕ => BitVec.ofNat 32 (Option.getD S.min 0)) (a₂ := {q.val}) ?_).trans rfl
  ext n
  simp only [Finset.mem_image, Finset.mem_filter, Finset.mem_univ, true_and, Finset.mem_singleton]
  constructor
  · rintro ⟨k, ⟨hk, hmin⟩, rfl⟩
    obtain ⟨a, b, rfl⟩ : ∃ (a : Fin A) (b : Fin B), k = ix2 a b := ⟨k 0, k 1, eq_ix2 k⟩
    obtain rfl := (hdrop a b).1 hk
    by_contra hne
    have hbq : b ≠ q := fun e => hne (by rw [e]; rfl)
    exact hmin (ix2 a q) ((hdrop a q).2 rfl) (by simpa using hq b hbq)
  · rintro rfl
    refine ⟨ix2 i q, ⟨(hdrop i q).2 rfl, fun k' hk' => ?_⟩, rfl⟩
    obtain ⟨a, b, rfl⟩ : ∃ (a : Fin A) (b : Fin B), k' = ix2 a b := ⟨k' 0, k' 1, eq_ix2 k'⟩
    obtain rfl := (hdrop a b).1 hk'
    simp only [reduceCtorEq, ↓reduceIte, not_lt]
    rcases eq_or_ne b q with rfl | hb
    · exact le_refl _
    · exact (hq b hb).le

/-! ## The reference's fold over (value, index) pairs -/

/-- A left fold that keeps the pair `best` against every pair of greater value, takes `best` when it meets it, and never
    lets a value below both of its arguments' arise, ends at `best` when `best` is met and every other pair met is
    of greater value. -/
theorem foldl_least {β : Type} (f : EReal × β → EReal × β → EReal × β) (best : EReal × β)
    (hkeep : ∀ p, best.1 < p.1 → f best p = best) (hself : f best best = best)
    (htake : ∀ p, best.1 < p.1 → f p best = best) (habove : ∀ p r, best.1 < p.1 → best.1 < r.1 → best.1 < (f p r).1) :
    ∀ (l : List (EReal × β)) (a : EReal × β), (∀ p ∈ l, p = best ∨ best.1 < p.1) → (a = best ∨ best.1 < a.1 ∧ best ∈ l) →
      l.foldl f a = best
  | [], a, _, ha => by
    rcases ha with rfl | ⟨_, hm⟩
    · rfl
    · simp at hm
  | p :: l, a, hl, ha => by
    have hp := hl p List.mem_cons_self
    have hl' : ∀ r ∈ l, r = best ∨ best.1 < r.1 := fun r hr => hl r (List.mem_cons_of_mem _ hr)
    refine foldl_least f best hkeep hself htake habove l _ hl' ?_
    rcases ha with rfl | ⟨hlt, hm⟩
    · rcases hp with rfl | hp
      · exact .inl hself
      · exact .inl (hkeep p hp)
    · rcases hp with rfl | hp
      · exact .inl (htake a hlt)
      · refine .inr ⟨habove a p hlt hp, ?_⟩
        rcases List.mem_cons.1 hm with rfl | hm
        · exact absurd hp (lt_irrefl _)
        · exact hm

/-- The reference's pair reducer at the reals: of two pairs the one of smaller value, at equal values the smaller index. -/
def pick (a b : EReal × BitVec 32) : EReal × BitVec 32 :=
  let v4 := IntOp.ori (Ideal.cmp .olt a.1 b.1) (Ideal.cmp .une a.1 a.1)
  let v8 := IntOp.ori v4 (IntOp.andi (Ideal.cmp .oeq a.1 b.1) (IntOp.cmpi .slt a.2 b.2))
  (Scalar.select v4 a.1 b.1, Scalar.select v8 a.2 b.2)

/-- Against a pair of greater value the first pair is kept. -/
theorem pick_of_lt {a b : EReal × BitVec 32} (h : a.1 < b.1) : pick a b = a := by
  have : ¬ a.1 = b.1 := h.ne
  simp [pick, Ideal.cmp, h, this, Scalar.select, IntOp.ori, IntOp.andi]

/-- Against a pair of smaller value the second pair is taken. -/
theorem pick_of_gt {a b : EReal × BitVec 32} (h : b.1 < a.1) : pick a b = b := by
  have h1 : ¬ a.1 = b.1 := h.ne'
  have h2 : ¬ a.1 < b.1 := h.le.not_gt
  simp [pick, Ideal.cmp, h1, h2, Scalar.select, IntOp.ori, IntOp.andi]

/-- The value of the picked pair is one of the two values. -/
theorem pick_fst (a b : EReal × BitVec 32) : (pick a b).1 = a.1 ∨ (pick a b).1 = b.1 := by
  unfold pick Scalar.select
  dsimp only
  split <;> simp

/-- Of two equal pairs, that pair. -/
theorem pick_self (a : EReal × BitVec 32) : pick a a = a := by
  have : IntOp.cmpi .slt a.2 a.2 = 0#1 := by simp [IntOp.cmpi, BitVec.slt]
  simp [pick, Scalar.select]

/-- The fold over a row of (value, index) pairs from (+∞, 0): where entry `q` of the row is strictly the least and not
    +∞, it returns the pair of entry `q`. -/
theorem reduce2_least {A B : Nat} {u : Shape} (h : (⟨2, ![A, B]⟩ : Shape).ReducesTo [1] ⟨1, ![A]⟩) (hu : 0 < u.numel)
    (x : (⟨2, ![A, B]⟩ : Shape).Idx → EReal) (y : (⟨2, ![A, B]⟩ : Shape).Idx → BitVec 32) (ix : u.Idx → EReal)
    (iy : u.Idx → BitVec 32) (i : Fin A) (q : Fin B) (hq : Least (fun p => x (ix2 i p)) q)
    (htop : x (ix2 i q) < ix (Shape.Idx.first hu)) :
    Host.reduce2 pick x y ix iy h hu (ix1 i) = (x (ix2 i q), y (ix2 i q)) := by
  have hdrop : ∀ (a : Fin A) (b : Fin B), h.drop (ix2 a b) = ix1 i ↔ a = i := by
    intro a b
    have hv : (h.drop (ix2 a b) 0 : Nat) = a := Shape.ReducesTo.drop_apply_val h (ix2 a b) 0
    constructor
    · intro e; rw [e] at hv; exact Fin.ext hv.symm
    · intro e; funext c; have hc : c = 0 := Subsingleton.elim _ _; subst hc; exact Fin.ext (by rw [hv, e]; rfl)
  rw [Host.reduce2_eq_foldl_fiber]
  refine foldl_least pick _ (fun p hp => pick_of_lt hp) (pick_self _) (fun p hp => pick_of_gt hp)
    (fun p r hp hr => ?_) _ _ ?_ (.inr ⟨htop, ?_⟩)
  · rcases pick_fst p r with e | e <;> rw [e] <;> assumption
  · intro p hp
    simp only [Host.argReduceFiber, List.mem_map, List.mem_filter, List.mem_finRange, true_and, decide_eq_true_eq] at hp
    obtain ⟨n, hn, rfl⟩ := hp
    generalize (⟨2, ![A, B]⟩ : Shape).rowMajor.symm n = k at hn ⊢
    obtain ⟨a, b, rfl⟩ : ∃ (a : Fin A) (b : Fin B), k = ix2 a b := ⟨k 0, k 1, eq_ix2 k⟩
    obtain rfl := (hdrop a b).1 hn
    rcases eq_or_ne b q with rfl | hb
    · exact .inl rfl
    · exact .inr (hq b hb)
  · simp only [Host.argReduceFiber, List.mem_map, List.mem_filter, List.mem_finRange, true_and, decide_eq_true_eq]
    exact ⟨(⟨2, ![A, B]⟩ : Shape).rowMajor (ix2 i q), by rw [Equiv.symm_apply_apply]; exact (hdrop i q).2 rfl,
      by rw [Equiv.symm_apply_apply]⟩

end Cert.Vq

end
-- ==== Proof.Block.lean ====
/- What one grid point's body computes from its three operands: the place of the nearest code of each row, that code's
   number, the code itself, and the block's sum of squared differences. -/
module

public import proofs.«01_k».proof.Proof.Nearest
public import proofs.«01_k».proof.Proof.Gen.KernelIdeal.Frame

@[expose] public section

set_option maxRecDepth 16384

noncomputable section

namespace Cert.Vq

open Idealize.ShloMosaic Cert.KernelIdeal Cert.KernelIdeal.Gen

/-- The place of the nearest code, as the block's first payload: the indexed minimum of the expanded distances. -/
theorem pay3_apply (z : Vec Ideal S8192x64 .f32) (c : Vec Ideal S1024x64 .f32) (c2 : Vec Ideal S1x1024 .f32)
    (hc2 : ∀ p, c2 (ix2 0 p) = ∑ k, c (ix2 p k) * c (ix2 p k)) (r : Fin 8192) (q : Fin 1024)
    (hq : Least (fun p => gap (fun k => z (ix2 r k)) (fun k => c (ix2 p k))) q) :
    k0_pay3 z c c2 (ix1 r) = BitVec.ofNat 32 q.val := by
  unfold k0_pay3
  refine reduceIndex_least _ _ r q ?_
  intro p hp
  have := hq p hp
  pointwise [k0_pay2]
  simp only [hc2]
  exact this

/-- The code's number: the permutation's words applied to the place. -/
theorem pay4_apply (z : Vec Ideal S8192x64 .f32) (c : Vec Ideal S1024x64 .f32) (c2 : Vec Ideal S1x1024 .f32)
    (r : Fin 8192) (q : Fin 1024) (h : k0_pay3 z c c2 (ix1 r) = BitVec.ofNat 32 q.val) :
    k0_pay4 z c c2 (ix1 r) = BitVec.ofNat 32 (code q).val := by
  rw [← code_word .vector, ← h]
  rfl

/-- The code itself: the product of a row that is 1 at the place and 0 elsewhere with the codebook. -/
theorem pay5_apply (z : Vec Ideal S8192x64 .f32) (c : Vec Ideal S1024x64 .f32) (c2 : Vec Ideal S1x1024 .f32)
    (r : Fin 8192) (k : Fin 64) (q : Fin 1024) (h : k0_pay3 z c c2 (ix1 r) = BitVec.ofNat 32 q.val) :
    k0_pay5 z c c2 (ix2 r k) = c (ix2 q k) := by
  pointwise [k0_pay5, k0_pay2]
  rw [h, Finset.sum_eq_single q]
  · have : IntOp.cmpi .eq (BitVec.ofNat 32 q.val) (BitVec.ofNat 32 q.val) = 1#1 := by simp [IntOp.cmpi]
    rw [this]
    show ((((1#1 : BitVec 1).setWidth 32).toInt : ℝ) : EReal) * _ = _
    simp
  · intro p _ hp
    have : IntOp.cmpi .eq (BitVec.ofNat 32 p.val) (BitVec.ofNat 32 q.val) = 0#1 := by
      have hne : BitVec.ofNat 32 p.val ≠ BitVec.ofNat 32 q.val := fun e => hp (Fin.ext (by
        have := congrArg BitVec.toNat e
        simp only [BitVec.toNat_ofNat] at this
        omega))
      show BitVec.ofBool (BitVec.ofNat 32 p.val == BitVec.ofNat 32 q.val) = 0#1
      rw [beq_eq_false_iff_ne.2 hne]; rfl
    rw [this]
    show ((((0#1 : BitVec 1).setWidth 32).toInt : ℝ) : EReal) * _ = _
    simp
  · intro hq; exact absurd (Finset.mem_univ q) hq

/-- The block's sum of squared differences. -/
theorem pay1_apply (z : Vec Ideal S8192x64 .f32) (c : Vec Ideal S1024x64 .f32) (c2 : Vec Ideal S1x1024 .f32)
    (l : Fin 128) :
    k0_pay1 (k0_pay6 z c c2) (ix3 0 0 l)
      = ∑ r : Fin 8192, ∑ k : Fin 64, (k0_pay5 z c c2 (ix2 r k) - z (ix2 r k)) * (k0_pay5 z c c2 (ix2 r k) - z (ix2 r k)) := by
  pointwise [k0_pay1, k0_pay6]

end Cert.Vq

end
-- ==== Proof.Codebook.lean ====
/- What the kernel's two prepared operands hold when it starts: the codebook in the permuted order, and the squared
   length of each of its codes. -/
module

public import proofs.«01_k».proof.Proof.Nearest
public import proofs.«01_k».proof.Proof.Gen.KernelIdeal.Frame
public import Idealize.ShloMosaic.Lib.Claim
public import Idealize.ShloMosaic.Lib.Routing.Ops
public import Idealize.ShloMosaic.Lib.Routing.OpsSearch
public import Idealize.ShloMosaic.Lib.Pointwise.IndexBridge
public import Idealize.ShloMosaic.Lib.StableHlo.Predicate

@[expose] public section

set_option maxRecDepth 16384

noncomputable section

namespace Cert.Vq

open Idealize.ShloMosaic Cert.KernelIdeal Cert.KernelIdeal.Gen

variable (m : (ℓ : Loc nD τ sig) → Buf (Elt Ideal) ℓ)

/-- The argument `codebook` on core `c`. -/
abbrev codes (c : Dev nD) : FVec Ideal S1024x64 .f32 := m ((c.tc : Thread nD τ).loc main_arg1)

/-- The code numbers in the order of the permuted codebook, as the program computes them from the places 0, 1, …, 1023. -/
def codeWords : IVec S1024 32 :=
  addi (muli (subi (broadcastInDim S1024 ![] bcast_S_S1024 (constantI S_ 32 127#32))
      (andi (iotaInDim S1024 32 0) (broadcastInDim S1024 ![] bcast_S_S1024 (constantI S_ 32 127#32))))
    (broadcastInDim S1024 ![] bcast_S_S1024 (constantI S_ 32 8#32)))
    (Host.shrsi (iotaInDim S1024 32 0) (broadcastInDim S1024 ![] bcast_S_S1024 (constantI S_ 32 7#32)))

/-- Those numbers as a column of start indices, a negative one first raised by 1024 (none is negative). -/
def codeColumn : IVec S1024x1 32 :=
  broadcastInDim S1024x1 ![0] bcast_S1024_S1024x1_0
    (select (cmpi .slt codeWords (broadcastInDim S1024 ![] bcast_S_S1024 (constantI S_ 32 0#32)))
      (addi codeWords (broadcastInDim S1024 ![] bcast_S_S1024 (constantI S_ 32 1024#32))) codeWords)

/-- The start index at place `p` is the number of the code that stands there. -/
theorem codeColumn_apply (p : Fin 1024) : codeColumn (ix2 p 0) = BitVec.ofNat 32 (code p).val := by
  have hw : codeWords (ix1 p) = BitVec.ofNat 32 (code p).val := by
    rw [← code_word .host p]
    rfl
  unfold codeColumn
  pointwise
  rw [hw]
  exact wrap_word _ (by have := (code p).isLt; omega) _

/-- The kernel's second operand holds at row `p` the code that stands at place `p`. -/
theorem codebook_apply (c : Dev nD) (p : Fin 1024) (k : Fin 64) :
    V m c main_call0_v18 (ix2 p k) = codes m c (ix2 (code p) k) := by
  show StableHlo.after (hostOps0 (F := Ideal)) (fun b => m (c, b)) (Proc.devRef .tc _) _ = _
  simp only [StableHlo.after_cons, StableHlo.after_nil]
  after_results_simp
  show Host.gather gather_S1024x64_S1024x1_S1024x64_1_0_n_n_0_1_164 (codes m c) codeColumn (ix2 p k) = _
  rw [ix2_eq_valueIdx, ix2_eq_valueIdx]
  exact Routing.gather_row _ rfl rfl rfl rfl rfl _ _ _ _ _ (by rw [← ix2_eq_valueIdx]; exact codeColumn_apply p) (by norm_num)

/-- The kernel's third operand holds at column `p` the squared length of the code that stands at place `p`. -/
theorem lengths_apply (c : Dev nD) (p : Fin 1024) :
    (V m c main_call0_v26 : FVec Ideal S1x1024 .f32) (ix2 0 p) = ∑ k, codes m c (ix2 (code p) k) * codes m c (ix2 (code p) k) := by
  show StableHlo.after (hostOps0 (F := Ideal)) (fun b => m (c, b)) (Proc.devRef .tc _) _ = _
  simp only [StableHlo.after_cons, StableHlo.after_nil]
  after_results_simp
  show broadcastInDim S1x1024 ![1] bcast_S1024_S1x1024_1 (Host.gather gather_S1024_S1024x1_S1024_n_0_n_n_0_1_1
    (Host.reduceAdd (mulf (codes m c) (codes m c)) (constant S_ .f32 0x00000000#32) reducesTo_S1024x64_S1024_d1 h_S_) codeColumn)
    (ix2 0 p) = _
  pointwise
  rw [ix1_eq_valueIdx]
  rw [Routing.take_ap _ rfl rfl rfl rfl _ _ _ (code p).isLt (by have := (code p).isLt; omega) (by rw [← ix2_eq_valueIdx]; exact codeColumn_apply p)]
  rw [← ix1_eq_valueIdx]
  pointwise

end Cert.Vq

end
-- ==== Proof.Arrays.lean ====
/- The kernel's three result arrays over the whole grid: the chosen codes, their numbers and the four partial sums. -/
module

public import proofs.«01_k».proof.Proof.Block
public import proofs.«01_k».proof.Proof.Codebook
public import Idealize.ShloMosaic.Lib.Pipeline.ValueKit

@[expose] public section

set_option maxRecDepth 16384

noncomputable section

namespace Cert.Vq

open Idealize.ShloMosaic Cert.KernelIdeal Cert.KernelIdeal.Gen

variable (m : (ℓ : Loc nD τ sig) → Buf (Elt Ideal) ℓ)

/-- The argument `z` on core `c`. -/
abbrev rows (c : Dev nD) : FVec Ideal S32768x64 .f32 := m ((c.tc : Thread nD τ).loc main_arg0)

/-- Row `r` of block `t` as a row of the whole array. -/
def row (t : Fin 4) (r : Fin 8192) : Fin 32768 := ⟨t.val * 8192 + r.val, by omega⟩

/-- A grid point as the number of its block. -/
def block (t : Fin cfg0.N) : Fin 4 := ⟨t.val, lt_of_lt_of_eq t.isLt N_0⟩

/-- Which block each window stands at: the row blocks in turn for the rows and the results, all of it for the codebook. -/
theorem windows : ∀ t : Fin cfg0.N, win0_0.index t = ![t.val, 0] ∧ win0_1.index t = ![0, 0] ∧ win0_2.index t = ![0, 0]
    ∧ win0_3.index t = ![t.val, 0] ∧ win0_4.index t = ![t.val] ∧ win0_5.index t = ![t.val, 0, 0] :=
  (by decide +kernel : ∀ t : Fin grid0.N, _)

/-- The rows a grid point loads. -/
theorem load_rows (c : Dev nD) (t : Fin cfg0.N) (r : Fin 8192) (k : Fin 64) :
    iblk m c 0 t (ix2 r k) = rows m c (ix2 (row (block t) r) k) := by
  have e : ∀ t, win0_0.index t = ![t.val, 0] := fun t => (windows t).1
  blk_ext [iblk, V, e, row, block]

/-- The codebook a grid point loads, in its permuted order. -/
theorem load_codes (c : Dev nD) (t : Fin cfg0.N) (p : Fin 1024) (k : Fin 64) :
    iblk m c 1 t (ix2 p k) = codes m c (ix2 (code p) k) := by
  rw [← codebook_apply]
  have e : ∀ t, win0_1.index t = ![0, 0] := fun t => (windows t).2.1
  blk_ext [iblk, e]

/-- The squared lengths a grid point loads. -/
theorem load_lengths (c : Dev nD) (t : Fin cfg0.N) (p : Fin 1024) :
    iblk m c 2 t (ix2 0 p) = ∑ k, codes m c (ix2 (code p) k) * codes m c (ix2 (code p) k) := by
  have e : ∀ t, win0_2.index t = ![0, 0] := fun t => (windows t).2.2.1
  have h : iblk m c 2 t (ix2 0 p) = V m c main_call0_v26 (ix2 0 p) := by
    blk_simp [iblk]
    refine congrArg _ ?_
    generalize V m c = v
    blk_ext [e]
  exact h.trans (lengths_apply m c p)

variable {m} in
/-- Row `r` of a grid point's block finds its nearest code at that code's place. -/
theorem block_place {c : Dev nD} {near : Fin 32768 → Fin 1024}
    (hnear : ∀ i, Least (fun p => gap (fun k => rows m c (ix2 i k)) (fun k => codes m c (ix2 p k))) (near i))
    (t : Fin cfg0.N) (r : Fin 8192) :
    k0_pay3 (iblk m c 0 t) (iblk m c 1 t) (iblk m c 2 t) (ix1 r)
      = BitVec.ofNat 32 (place (near (row (block t) r))).val := by
  refine pay3_apply _ _ _ ?_ r _ ?_
  · intro p
    refine (load_lengths m c t p).trans ?_
    simp only [load_codes]
  · simp only [load_codes, load_rows]
    exact (hnear _).permuted

section
variable {m} {c : Dev nD} {near : Fin 32768 → Fin 1024}
  (hnear : ∀ i, Least (fun p => gap (fun k => rows m c (ix2 i k)) (fun k => codes m c (ix2 p k))) (near i))
include hnear

/-- The third result window's array: at every row its nearest code. -/
theorem array_codes : (dats m 0 c).arrAt 3 (cfgs 0).N = fun j : S32768x64.Idx => codes m c (ix2 (near (j 0)) (j 1)) := by
  refine (dats m 0 c).arrAt_eq_of_covers 3 _ (by decide +kernel) fun t _ y => ?_
  blk_simp
  rw [after0_3]
  frame_out
  have e : ∀ t, win0_3.index t = ![t.val, 0] := fun t => (windows t).2.2.2.1
  idx_vars y
  have h : ((View.whole main_v0_0).slice (win0_3.rect t)).emb (ix2 y0 y1) = ix2 (row (block t) y0) y1 := by
    blk_ext [e, row, block]
  rw [h]
  refine (pay5_apply _ _ _ y0 y1 _ (block_place hnear t y0)).trans ((load_codes m c t _ y1).trans ?_)
  rw [code_place]
  rfl

/-- The fourth: at every row the number of its nearest code. -/
theorem array_numbers : (dats m 0 c).arrAt 4 (cfgs 0).N = fun j : S32768.Idx => BitVec.ofNat 32 (near (j 0)).val := by
  refine (dats m 0 c).arrAt_eq_of_covers 4 _ (by decide +kernel) fun t _ y => ?_
  blk_simp
  rw [after0_4]
  frame_out
  have e : ∀ t, win0_4.index t = ![t.val] := fun t => (windows t).2.2.2.2.1
  idx_vars y
  have h : ((View.whole main_v0_2).slice (win0_4.rect t)).emb (ix1 y0) = ix1 (row (block t) y0) := by
    blk_ext [e, row, block]
  rw [h]
  refine (pay4_apply _ _ _ y0 _ (block_place hnear t y0)).trans ?_
  rw [code_place]
  rfl

/-- The fifth: in row `t` the sum, over block `t`, of the squared differences between the rows and their nearest codes. -/
theorem array_sums : (dats m 0 c).arrAt 5 (cfgs 0).N = fun j : S4x1x128.Idx => ∑ r, ∑ k,
    (codes m c (ix2 (near (row (j 0) r)) k) - rows m c (ix2 (row (j 0) r) k))
      * (codes m c (ix2 (near (row (j 0) r)) k) - rows m c (ix2 (row (j 0) r) k)) := by
  refine (dats m 0 c).arrAt_eq_of_covers 5 _ (by decide +kernel) fun t _ y => ?_
  blk_simp
  rw [after0_5]
  frame_out
  have e : ∀ t, win0_5.index t = ![t.val, 0, 0] := fun t => (windows t).2.2.2.2.2
  idx_vars y
  have h : ((View.whole main_call0_v27_2).slice (win0_5.rect t)).emb (ix3 y0 y1 y2) 0 = block t := by
    refine Fin.ext ?_
    blk_simp [e, block]
  rw [h]
  obtain rfl : y0 = 0 := Subsingleton.elim _ _
  obtain rfl : y1 = 0 := Subsingleton.elim _ _
  refine (pay1_apply _ _ _ y2).trans (Finset.sum_congr rfl fun r _ => Finset.sum_congr rfl fun k _ => ?_)
  rw [pay5_apply _ _ _ r k _ (block_place hnear t r), load_codes, load_rows, code_place]

end

end Cert.Vq

end
-- ==== Proof.KernelRun.lean ====
/- The kernel's run: its results where every row has one nearest code. -/
module

public import proofs.«01_k».proof.Proof.Arrays
public import Idealize.ShloMosaic.Adequacy
public import Idealize.ShloMosaic.Init

@[expose] public section

set_option maxRecDepth 16384

noncomputable section

namespace Cert.Vq

open Idealize.ShloMosaic Idealize.SL.Sem Cert.KernelIdeal Cert.KernelIdeal.Gen

/-- The sum over all rows, block by block. -/
theorem sum_blocks (f : Fin 32768 → EReal) : ∑ t, ∑ r, f (row t r) = ∑ i, f i := by
  rw [← Finset.sum_product']
  refine Finset.sum_bij' (fun p _ => row p.1 p.2)
    (fun i _ => (⟨i.val / 8192, by have := i.isLt; omega⟩, ⟨i.val % 8192, by omega⟩)) ?_ ?_ ?_ ?_ ?_
  · intro _ _; exact Finset.mem_univ _
  · intro _ _; simp
  · rintro ⟨t, r⟩ _
    have ht : (t.val * 8192 + r.val) / 8192 = t.val := by have := r.isLt; omega
    have hr : (t.val * 8192 + r.val) % 8192 = r.val := by have := r.isLt; omega
    exact Prod.ext (Fin.ext ht) (Fin.ext hr)
  · intro i _
    exact Fin.ext (by show i.val / 8192 * 8192 + i.val % 8192 = i.val; omega)
  · intro _ _; rfl

/-- The sum of the squared differences between all rows and their nearest codes. -/
def total (z : FVec Ideal S32768x64 .f32) (e : FVec Ideal S1024x64 .f32) (near : Fin 32768 → Fin 1024) : EReal :=
  ∑ i, ∑ k, (e (ix2 (near i) k) - z (ix2 i k)) * (e (ix2 (near i) k) - z (ix2 i k))

/-- The lines after the kernel: from the four partial sums to the loss. -/
def tail (s : FVec Ideal S4x1x128 .f32) : FVec Ideal S_ .f32 :=
  let v := Host.divf (Host.reduceAdd (shapeCast S4 (extractStridedSlice S4x1x1 ![0, 0, 0] s slices_S4x1x128_S4x1x1_0_0_0)
      shapeCasts_S4x1x1_S4) (constant S_ .f32 0x00000000#32) reducesTo_S4_S_d0 h_S_) (constant S_ .f32 0x4A000000#32)
  addf v (mulf (constant S_ .f32 0x3E800000#32) v)

/-- Where the partial sum of block `t` is `f t`, those lines give `q + q / 4` with `q` the sum of all `f t` over the number of
    entries. -/
theorem tail_apply (f : Fin 4 → EReal) (j : S_.Idx) :
    tail (fun i : S4x1x128.Idx => f (i 0)) j = Ideal.div (∑ t, f t) (Ideal.ofBits .f32 0x4A000000#32)
      + Ideal.ofBits .f32 0x3E800000#32 * Ideal.div (∑ t, f t) (Ideal.ofBits .f32 0x4A000000#32) := by
  pointwise [tail]

/-- The loss buffer after those lines. -/
theorem tail_read (m : (ℓ : Loc nD τ sig) → Buf (Elt Ideal) ℓ) (c : Dev nD) :
    Pipeline.afterTail₀ cfgs (dats m) 0 (V0 m) [hostOps1] c main_v0_3 = tail ((dats m 0 c).arrAt 5 (cfgs 0).N) := by
  unfold Pipeline.afterTail₀
  show StableHlo.after (hostOps1 (F := Ideal)) _ _ = _
  simp only [StableHlo.after_cons, StableHlo.after_nil]
  after_results_simp
  have read : Pipeline.withArrays (cfgs 0).spec c (V0 m c) (fun w => (dats m 0 c).arrAt w (cfgs 0).N)
      (Proc.devRef .tc main_call0_v27_2) = (dats m 0 c).arrAt 5 (cfgs 0).N :=
    Pipeline.withArrays_arr (cfgs 0).spec launch0.win.arr_inj c (V0 m c) (fun w => (dats m 0 c).arrAt w (cfgs 0).N) 5
  rw [read]
  generalize (dats m 0 c).arrAt 5 (cfgs 0).N = s
  simp only [StableHlo.TRef.ofBuf_toBuf]
  rfl

/-- Every run of the kernel ends with its results at these values and its arguments as they were. -/
theorem kernel_run (m : (ℓ : Loc nD τ sig) → Buf (Elt Ideal) ℓ) (g : Dev nD → PrngReg) (near : Dev nD → Fin 32768 → Fin 1024)
    (hnear : ∀ c i, Least (fun p => gap (fun k => rows m c (ix2 i k)) (fun k => codes m c (ix2 p k))) (near c i)) :
    θ_run (defs (F := Ideal)) (onTc (τ := τ) (main (F := Ideal))) ⟨m, fun _ => 0, g⟩ (fun r => ∀ c : Dev nD,
      r.2.mem ((c.tc : Thread nD τ).loc main_v0_0) = (fun j : S32768x64.Idx => codes m c (ix2 (near c (j 0)) (j 1)))
      ∧ r.2.mem ((c.tc : Thread nD τ).loc main_v0_2) = (fun j : S32768.Idx => BitVec.ofNat 32 (near c (j 0)).val)
      ∧ r.2.mem ((c.tc : Thread nD τ).loc main_v0_3)
          = (fun _ : S_.Idx => Ideal.div (total (rows m c) (codes m c) (near c)) (Ideal.ofBits .f32 0x4A000000#32)
              + Ideal.ofBits .f32 0x3E800000#32
                * Ideal.div (total (rows m c) (codes m c) (near c)) (Ideal.ofBits .f32 0x4A000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g
  · exact array_codes (hnear c)
  · exact array_numbers (hnear c)
  · rw [tail_read, array_sums (hnear c)]
    funext j
    rw [tail_apply (fun t => ∑ r, ∑ k, (codes m c (ix2 (near c (row t r)) k) - rows m c (ix2 (row t r) k))
        * (codes m c (ix2 (near c (row t r)) k) - rows m c (ix2 (row t r) k))) j,
      sum_blocks (fun i => ∑ k, (codes m c (ix2 (near c i) k) - rows m c (ix2 i k))
        * (codes m c (ix2 (near c i) k) - rows m c (ix2 i k)))]
    rfl
  · exact W_main_arg1 m (dats m) c

end Cert.Vq

end
-- ==== Proof.Precondition.lean ====
/- What the precondition gives: every row has one nearest code, strictly nearer than the rest, and every entry of `z` is
   a real number. -/
module

public import proofs.«01_k».proof.Proof.Nearest
public import proofs.«01_k».proof.Proof.Gen.Pre_no_tie
public import Idealize.ShloMosaic.Lib.StableHlo.Predicate
public import Idealize.ShloMosaic.Lib.ReduceAll

@[expose] public section

set_option maxRecDepth 16384

noncomputable section

namespace Cert.Vq

open Idealize.ShloMosaic Cert.Pre_no_tie Cert.Pre_no_tie.Gen

/-- The array of the expanded distances: row `i`, column `p` holds the one from row `i` of `z` to code `p`. -/
def distances (z : FVec Ideal S32768x64 .f32) (e : FVec Ideal S1024x64 .f32) : FVec Ideal S32768x1024 .f32 :=
  addf (subf
      (broadcastInDim S32768x1024 ![0, 1] bcast_S32768x1_S32768x1024_0_1 (broadcastInDim S32768x1 ![0] bcast_S32768_S32768x1_0
        (Host.reduceAdd (mulf z z) (constant (F := Ideal) S_ .f32 0x00000000#32) reducesTo_S32768x64_S32768_d1 h_S_)))
      (mulf (broadcastInDim S32768x1024 ![] bcast_S_S32768x1024 (constant (F := Ideal) S_ .f32 0x40000000#32))
        (Host.dotGeneral dot_S32768x64_S64x1024_S32768x1024_1_0_0_1_n_n none z
          (transpose S64x1024 [1, 0] e transposes_S1024x64_S64x1024_1_0))))
    (broadcastInDim S32768x1024 ![0, 1] bcast_S1x1024_S32768x1024_0_1 (broadcastInDim S1x1024 ![1] bcast_S1024_S1x1024_1
      (Host.reduceAdd (mulf e e) (constant (F := Ideal) S_ .f32 0x00000000#32) reducesTo_S1024x64_S1024_d1 h_S_)))

/-- Its entries are the expanded distances. -/
theorem distances_apply (z : FVec Ideal S32768x64 .f32) (e : FVec Ideal S1024x64 .f32) (i : Fin 32768) (p : Fin 1024) :
    distances z e (ix2 i p) = gap (fun k => z (ix2 i k)) (fun k => e (ix2 p k)) := by
  unfold distances gap
  pointwise

/-- The word of +∞. -/
theorem infinity : Ideal.ofBits .f32 0x7F800000#32 = ⊤ := by
  simp [Ideal.ofBits, Ideal.ieee]

/-- A row's least entry, spread over the row's columns. -/
theorem least_apply (d : FVec Ideal S32768x1024 .f32) (i : Fin 32768) (p : Fin 1024) :
    broadcastInDim S32768x1024 ![0, 1] bcast_S32768x1_S32768x1024_0_1
      (broadcastInDim S32768x1 ![0] bcast_S32768_S32768x1_0 (Host.reduce FloatOps.minimumf d
        (constant (F := Ideal) S_ .f32 0x7F800000#32) reducesTo_S32768x1024_S32768_d1 h_S_)) (ix2 i p)
      = Finset.univ.fold min ⊤ fun p => d (ix2 i p) := by
  pointwise
  rw [infinity]

/-- The precondition's first half counts the columns at the row's minimum and finds one; its second half compares the
    absolute values with infinity. -/
theorem precondition (z : FVec Ideal S32768x64 .f32) (e : FVec Ideal S1024x64 .f32)
    (h : Cert.Pre_no_tie.fn (F := Ideal) z e = fun _ => 1#1) :
    (∀ i, ∃ q, Least (fun p => gap (fun k => z (ix2 i k)) (fun k => e (ix2 p k))) q)
      ∧ ∀ i k, ∃ r : ℝ, z (ix2 i k) = r := by
  have h0 := congrFun h ix0
  replace h0 : IntOp.andi
      (Host.reduce IntOp.andi (cmpi .eq (Host.reduce IntOp.addi (extui 32
        (cmpf .oeq (distances z e) (broadcastInDim S32768x1024 ![0, 1] bcast_S32768x1_S32768x1024_0_1
          (broadcastInDim S32768x1 ![0] bcast_S32768_S32768x1_0 (Host.reduce FloatOps.minimumf (distances z e)
            (constant (F := Ideal) S_ .f32 0x7F800000#32) reducesTo_S32768x1024_S32768_d1 h_S_)))) natLt_1_32)
          (constantI S_ 32 0#32) reducesTo_S32768x1024_S32768_d1 h_S_)
        (broadcastInDim S32768 ![] bcast_S_S32768 (constantI S_ 32 1#32))) (constantI S_ 1 1#1) reducesTo_S32768_S_d0 h_S_ ix0)
      (Host.reduce IntOp.andi (cmpf .olt (Host.absf z) (broadcastInDim S32768x64 ![] bcast_S_S32768x64
        (constant (F := Ideal) S_ .f32 0x7F800000#32))) (constantI S_ 1 1#1) reducesTo_S32768x64_S_d0_1 h_S_ ix0) = 1#1 := h0
  have hand : ∀ a b : BitVec 1, IntOp.andi a b = 1#1 → a = 1#1 ∧ b = 1#1 := by decide
  obtain ⟨h1, h2⟩ := hand _ _ h0
  have : Subsingleton S_.Idx := ⟨fun a b => funext fun x => x.elim0⟩
  constructor
  · intro i
    have hi := Host.reduce_andi_all _ _ _ _ _ h1 (ix1 i)
    have hc := congrArg BitVec.toNat (StableHlo.Predicate.cmpi_eq_iff.1 hi)
    rw [StableHlo.Predicate.toNat_reduce_count_cols (by norm_num)] at hc
    refine least_of_card_eq_one _ (Finset.univ.fold min ⊤ fun p => gap (fun k => z (ix2 i k)) (fun k => e (ix2 p k))) ?_ ?_
    · intro p
      exact (Finset.fold_min_le _).2 (Or.inr ⟨p, Finset.mem_univ _, le_rfl⟩)
    · refine Eq.trans (congrArg Finset.card (Finset.filter_congr fun p _ => ?_)) hc
      have hp : (StableHlo.Predicate.ij (ix1 i 0) p : S32768x1024.Idx) = ix2 i p :=
        StableHlo.Predicate.ij_eta (ix2 i p)
      have hmin := least_apply (distances z e) i p
      simp only [distances_apply] at hmin
      rw [hp]
      unfold cmpf
      rw [distances_apply, hmin, Ideal.cmpf_def, Ideal.cmp]
      simp [StableHlo.Predicate.ofBool_eq_one_iff]
  · intro i k
    have hi := Host.reduce_andi_all _ _ _ _ _ h2 (ix2 i k)
    have hlt : max (z (ix2 i k)) (-z (ix2 i k)) < Ideal.ofBits .f32 0x7F800000#32 :=
      of_decide_eq_true ((StableHlo.Predicate.ofBool_eq_one_iff _).1 hi)
    rw [infinity] at hlt
    have h1 : z (ix2 i k) ≠ ⊤ := fun e => by rw [e] at hlt; simp at hlt
    have h2 : z (ix2 i k) ≠ ⊥ := fun e => by rw [e] at hlt; simp at hlt
    exact ⟨(z (ix2 i k)).toReal, (EReal.coe_toReal h1 h2).symm⟩

end Cert.Vq

end
-- ==== Proof.Reference.lean ====
/- What the reference computes, as terms over its two arguments, and their values where every row has one nearest code. -/
module

public import proofs.«01_k».proof.Proof.Precondition
public import proofs.«01_k».proof.Proof.Gen.ReferenceIdeal
public import Idealize.ShloMosaic.Lib.Routing.Ops
public import Idealize.ShloMosaic.Lib.Pointwise.IndexBridge

@[expose] public section

set_option maxRecDepth 16384

noncomputable section

namespace Cert.Vq

open Idealize.ShloMosaic Cert.ReferenceIdeal Cert.ReferenceIdeal.Gen

/-- `argmin` along each row of an array. -/
def argmins (x : FVec Ideal S32768x1024 .f32) : IVec S32768 32 := fun j =>
  (Host.argReduce (reducer_argmin_f32_i32 (F := Ideal)) x (iotaInDim S32768x1024 32 1)
    (constant (F := Ideal) S_ .f32 0x7F800000#32) (constantI S_ 32 0#32) reducesTo_S32768x1024_S32768_d1 h_S_ j).2

/-- The reference's code numbers: `argmin` of the distances along each row. -/
def numbers (z : FVec Ideal S32768x64 .f32) (e : FVec Ideal S1024x64 .f32) : IVec S32768 32 := argmins (distances z e)

/-- Code numbers as a column of start indices, a negative one first raised by 1024. -/
def column (n : IVec S32768 32) : IVec S32768x1 32 :=
  broadcastInDim S32768x1 ![0] bcast_S32768_S32768x1_0
    (select (cmpi .slt n (broadcastInDim S32768 ![] bcast_S_S32768 (constantI S_ 32 0#32)))
      (addi n (broadcastInDim S32768 ![] bcast_S_S32768 (constantI S_ 32 1024#32))) n)

/-- The codes taken at those numbers, an entry outside the codebook filled with a word that is no number. -/
def taken (e : FVec Ideal S1024x64 .f32) (n : IVec S32768 32) : FVec Ideal S32768x64 .f32 :=
  select (broadcastInDim S32768x64 ![0] bcast_S32768_S32768x64_0
      (Host.reduce IntOp.andi (andi
          (cmpi .sge (column n) (broadcastInDim S32768x1 ![] bcast_S_S32768x1 (constantI S_ 32 0#32)))
          (cmpi .sle (column n) (broadcastInDim S32768x1 ![0, 1] bcast_S1x1_S32768x1_0_1
            (broadcastInDim S1x1 ![1] bcast_S1_S1x1_1 (constantI S1 32 1023#32)))))
        (constantI S_ 1 1#1) reducesTo_S32768x1_S32768_d1 h_S_))
    (Host.gather gather_S1024x64_S32768x1_S32768x64_1_0_n_n_0_1_164 e (column n))
    (broadcastInDim S32768x64 ![] bcast_S_S32768x64 (constant (F := Ideal) S_ .f32 0x7FC00000#32))

/-- The mean of the squares of all entries. -/
def meanSquare (d : FVec Ideal S32768x64 .f32) : FVec Ideal S_ .f32 :=
  Host.divf (Host.reduceAdd (mulf d d) (constant (F := Ideal) S_ .f32 0x00000000#32) reducesTo_S32768x64_S_d0_1 h_S_)
    (constant (F := Ideal) S_ .f32 0x4A000000#32)

/-- The reference's loss: the mean square one way plus a quarter of the mean square the other way. -/
def loss (z q : FVec Ideal S32768x64 .f32) : FVec Ideal S_ .f32 :=
  addf (meanSquare (subf q z)) (mulf (constant (F := Ideal) S_ .f32 0x3E800000#32) (meanSquare (subf z q)))

/-- The reference's straight-through rows: `z + (q − z)`. -/
def straight (z q : FVec Ideal S32768x64 .f32) : FVec Ideal S32768x64 .f32 := addf z (subf q z)

/-- The reference's pair reducer at the reals is `pick`. -/
theorem reducer_eq : reducer_argmin_f32_i32 (F := Ideal) = pick := rfl

/-- `argmin` along rows whose entries `near i` are strictly the least: the words of `near`. -/
theorem argmin_rows (x : FVec Ideal S32768x1024 .f32) (near : Fin 32768 → Fin 1024)
    (hnear : ∀ i, Least (fun p => x (ix2 i p)) (near i)) :
    argmins x = fun j : S32768.Idx => BitVec.ofNat 32 (near (j 0)).val := by
  unfold argmins
  funext j
  obtain ⟨i, rfl⟩ : ∃ i : Fin 32768, j = ix1 i := ⟨j 0, eq_ix1 j⟩
  have htop : x (ix2 i (near i)) < constant (F := Ideal) S_ .f32 0x7F800000#32 (Shape.Idx.first h_S_) := by
    have h : constant (F := Ideal) S_ .f32 0x7F800000#32 (Shape.Idx.first h_S_) = (⊤ : EReal) := infinity
    rw [h]
    obtain ⟨p, hp⟩ := exists_ne (near i)
    exact lt_of_lt_of_le (hnear i p hp) le_top
  rw [Ideal.argReduce_eq_reduce2, reducer_eq]
  have h := reduce2_least reducesTo_S32768x1024_S32768_d1 h_S_ x (iotaInDim S32768x1024 32 1)
    (constant (F := Ideal) S_ .f32 0x7F800000#32) (constantI S_ 32 0#32) i (near i) (hnear i) htop
  rw [h]
  show BitVec.ofNat 32 ((ix2 i (near i)) 1).val = _
  rw [ix2_1]
  rfl

/-- The reference's number of row `i` is its nearest code's. -/
theorem numbers_apply {z : FVec Ideal S32768x64 .f32} {e : FVec Ideal S1024x64 .f32} {near : Fin 32768 → Fin 1024}
    (hnear : ∀ i, Least (fun p => gap (fun k => z (ix2 i k)) (fun k => e (ix2 p k))) (near i)) :
    numbers z e = fun j => BitVec.ofNat 32 (near (j 0)).val := by
  unfold numbers
  refine argmin_rows (distances z e) near fun i => ?_
  simp only [distances_apply]
  exact hnear i

/-- A column entry of numbers within the codebook is the number itself. -/
theorem column_apply (near : Fin 32768 → Fin 1024) (i : Fin 32768) (u : Fin 1) :
    column (fun j => BitVec.ofNat 32 (near (j 0)).val) (ix2 i u) = BitVec.ofNat 32 (near i).val := by
  unfold column
  pointwise
  exact wrap_word _ (by have := (near i).isLt; omega) _

/-- Taking codes at numbers within the codebook gives the codes. -/
theorem taken_apply (e : FVec Ideal S1024x64 .f32) (near : Fin 32768 → Fin 1024) :
    taken e (fun j => BitVec.ofNat 32 (near (j 0)).val) = fun j => e (ix2 (near (j 0)) (j 1)) := by
  funext j
  obtain ⟨i, k, rfl⟩ : ∃ (i : Fin 32768) (k : Fin 64), j = ix2 i k := ⟨j 0, j 1, eq_ix2 j⟩
  have hmask : ∀ i, Host.reduce IntOp.andi (andi
          (cmpi .sge (column (fun j => BitVec.ofNat 32 (near (j 0)).val)) (broadcastInDim S32768x1 ![] bcast_S_S32768x1 (constantI S_ 32 0#32)))
          (cmpi .sle (column (fun j => BitVec.ofNat 32 (near (j 0)).val)) (broadcastInDim S32768x1 ![0, 1] bcast_S1x1_S32768x1_0_1
            (broadcastInDim S1x1 ![1] bcast_S1_S1x1_1 (constantI S1 32 1023#32)))))
        (constantI S_ 1 1#1) reducesTo_S32768x1_S32768_d1 h_S_ i = 1#1 := by
    intro i
    refine Host.reduce_andi_one _ _ _ _ _ rfl fun k => ?_
    obtain ⟨a, u, rfl⟩ : ∃ (a : Fin 32768) (u : Fin 1), k = ix2 a u := ⟨k 0, k 1, eq_ix2 k⟩
    have hlt := (near a).isLt
    show IntOp.andi (IntOp.cmpi .sge (column _ (ix2 a u)) 0#32) (IntOp.cmpi .sle (column _ (ix2 a u)) 1023#32) = 1#1
    rw [column_apply, (StableHlo.Predicate.sge_iff_toNat _ _).2, (StableHlo.Predicate.sle_iff_toNat _ _).2]
    · rfl
    all_goals (simp only [BitVec.toNat_ofNat]; omega)
  unfold taken select
  have hbit : ∀ (v : IVec S32768 1), broadcastInDim S32768x64 ![0] bcast_S32768_S32768x64_0 v (ix2 i k) = v (ix1 i) := by
    intro v; pointwise
  rw [hbit, hmask]
  refine (if_pos rfl).trans ?_
  rw [ix2_eq_valueIdx, ix2_eq_valueIdx]
  exact Routing.gather_row _ rfl rfl rfl rfl rfl _ _ _ _ _ (by rw [← ix2_eq_valueIdx]; exact column_apply near i 0) (by norm_num)

/-- A real number and the difference to it add up to the other number, infinite or not. -/
theorem add_difference (r : ℝ) (x : EReal) : (r : EReal) + (x - r) = x := by
  induction x with
  | bot => rfl
  | top => rfl
  | coe a => norm_cast; ring_nf

/-- The square of a difference with a real number does not depend on its order. -/
theorem square_difference (r : ℝ) (x : EReal) : ((r : EReal) - x) * (r - x) = (x - r) * (x - r) := by
  have h : (r : EReal) - x = -(x - r) := by
    rw [EReal.neg_sub (.inr (EReal.coe_ne_bot r)) (.inr (EReal.coe_ne_top r)), add_comm, sub_eq_add_neg]
  rw [h, neg_mul_neg]

/-- For a real row entry, adding the difference to it gives the code's entry. -/
theorem straight_apply (z q : FVec Ideal S32768x64 .f32) (hz : ∀ i k, ∃ r : ℝ, z (ix2 i k) = r) : straight z q = q := by
  funext j
  obtain ⟨i, k, rfl⟩ : ∃ (i : Fin 32768) (k : Fin 64), j = ix2 i k := ⟨j 0, j 1, eq_ix2 j⟩
  obtain ⟨r, hr⟩ := hz i k
  show z (ix2 i k) + (q (ix2 i k) - z (ix2 i k)) = q (ix2 i k)
  rw [hr]
  exact add_difference r _

/-- For real row entries the two mean squares are one, and the loss is it and a quarter of it. -/
theorem loss_apply (z q : FVec Ideal S32768x64 .f32) (hz : ∀ i k, ∃ r : ℝ, z (ix2 i k) = r) (j : S_.Idx) :
    loss z q j = Ideal.div (∑ i, ∑ k, (q (ix2 i k) - z (ix2 i k)) * (q (ix2 i k) - z (ix2 i k))) (Ideal.ofBits .f32 0x4A000000#32)
      + Ideal.ofBits .f32 0x3E800000#32
        * Ideal.div (∑ i, ∑ k, (q (ix2 i k) - z (ix2 i k)) * (q (ix2 i k) - z (ix2 i k))) (Ideal.ofBits .f32 0x4A000000#32) := by
  have hsq : mulf (subf z q) (subf z q) = mulf (subf q z) (subf q z) := by
    funext j
    obtain ⟨i, k, rfl⟩ : ∃ (i : Fin 32768) (k : Fin 64), j = ix2 i k := ⟨j 0, j 1, eq_ix2 j⟩
    obtain ⟨r, hr⟩ := hz i k
    show (z (ix2 i k) - q (ix2 i k)) * (z (ix2 i k) - q (ix2 i k)) = (q (ix2 i k) - z (ix2 i k)) * (q (ix2 i k) - z (ix2 i k))
    rw [hr]
    exact square_difference r _
  unfold loss meanSquare
  rw [hsq]
  pointwise

end Cert.Vq

end
-- ==== Proof.ReferenceRun.lean ====
/- The reference's run: its results are the terms of `Reference.lean` over its two arguments. -/
module

public import proofs.«01_k».proof.Proof.Reference
public import Idealize.ShloMosaic.Lib.Claim
public import Idealize.ShloMosaic.Adequacy
public import Idealize.ShloMosaic.Init

@[expose] public section

set_option maxRecDepth 16384

noncomputable section

namespace Cert.Vq

open Idealize.ShloMosaic Idealize.SL.Sem Cert.ReferenceIdeal Cert.ReferenceIdeal.Gen

/-- The program's line for `argmin`, folded. -/
theorem argmins_fold (x : FVec Ideal S32768x1024 .f32) :
    (fun j => (Host.argReduce (reducer_argmin_f32_i32 (F := Ideal)) x (iotaInDim S32768x1024 32 1)
      (constant (F := Ideal) S_ .f32 0x7F800000#32) (constantI S_ 32 0#32) reducesTo_S32768x1024_S32768_d1 h_S_ j).2)
      = argmins x := rfl

/-- Reading the distances through their buffer changes nothing. -/
theorem read_distances (h₁ h₂ h₃) (x) : (StableHlo.TRef.of (T := ⟨S32768x1024, .f32⟩) (sig := sig) main_v13 h₁ h₂ h₃).ofBuf (Val := Elt Ideal) x = x := rfl

/-- Reading the codebook through its buffer changes nothing. -/
theorem read_codes (h₁ h₂ h₃) (x) : (StableHlo.TRef.of (T := ⟨S1024x64, .f32⟩) (sig := sig) main_arg1 h₁ h₂ h₃).ofBuf (Val := Elt Ideal) x = x := rfl

/-- Writing the taken codes to their buffer changes nothing. -/
theorem write_taken (h₁ h₂ h₃) (x) : (StableHlo.TRef.of (T := ⟨S32768x64, .f32⟩) (sig := sig) main_v15 h₁ h₂ h₃).toBuf (Val := Elt Ideal) x = x := rfl

/-- Every run of the reference ends with its four results at these terms and its arguments as they were. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v14)
          = numbers (m ((c.tc : Thread nD τ).loc main_arg0)) (m ((c.tc : Thread nD τ).loc main_arg1))
      ∧ r.2.mem ((c.tc : Thread nD τ).loc main_v15)
          = taken (m ((c.tc : Thread nD τ).loc main_arg1))
              (numbers (m ((c.tc : Thread nD τ).loc main_arg0)) (m ((c.tc : Thread nD τ).loc main_arg1)))
      ∧ r.2.mem ((c.tc : Thread nD τ).loc main_v25)
          = loss (m ((c.tc : Thread nD τ).loc main_arg0)) (taken (m ((c.tc : Thread nD τ).loc main_arg1))
              (numbers (m ((c.tc : Thread nD τ).loc main_arg0)) (m ((c.tc : Thread nD τ).loc main_arg1))))
      ∧ r.2.mem ((c.tc : Thread nD τ).loc main_v27)
          = straight (m ((c.tc : Thread nD τ).loc main_arg0)) (taken (m ((c.tc : Thread nD τ).loc main_arg1))
              (numbers (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  · rfl
  all_goals simp only [StableHlo.TRef.ofBuf_toBuf, argmins_fold, read_distances, read_codes, write_taken]
  all_goals
    generalize hN : argmins _ = n
    have hn : numbers (m ((c.tc : Thread nD τ).loc main_arg0)) (m ((c.tc : Thread nD τ).loc main_arg1)) = n := hN
    rw [hn]
  · rfl
  · rfl
  · rfl

end Cert.Vq

end
-- ==== Proof.lean ====
/- The kernel and the reference compute the same quantized rows, code numbers and loss over the extended reals, wherever
   every row has one nearest code and finite entries. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_no_tie
public import proofs.«01_k».proof.Proof.KernelRun
public import proofs.«01_k».proof.Proof.ReferenceRun
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's frame: its run leaves both arguments as they were, and it has no semaphore that could differ from zero. -/
theorem reference_frame : Cert.quiescent_ReferenceIdeal (hReferenceIdeal := Cert.ReferenceIdeal.Gen.facts) := by
  intro m g _
  exact θ_run_mono (Cert.Vq.reference_run m g) fun r hr =>
    ⟨fun c => (hr c).2.2.2.2, sem_eq_zero_of_no_sems (by decide) r.2⟩

/-- The five claims. On inputs that meet the precondition both programs end with the nearest codes, their numbers and the
    loss over the sum of the squared differences. -/
theorem claim : Cert.Claim := by
  refine ⟨Cert.Kernel.Gen.facts, Cert.KernelIdeal.Gen.facts, Cert.ReferenceIdeal.Gen.facts, Cert.Pre_no_tie.Gen.facts,
    fun m g _ => Cert.Kernel.Gen.frame m g, fun m g _ => Cert.Kernel.Gen.frame m g, fun m g _ => Cert.KernelIdeal.Gen.frame m g,
    reference_frame, fun m g _ => reference_frame m g trivial, trivial, ?_⟩
  intro m g m' g' hpre hagree
  have known := fun c => Cert.Vq.precondition _ _ (hpre c)
  choose near hnear using fun c => (known c).1
  refine ⟨fun c => fun j : S32768x64.Idx => Cert.Vq.codes m c (ix2 (near c (j 0)) (j 1)),
    fun c => fun j : S32768x64.Idx => Cert.Vq.codes m c (ix2 (near c (j 0)) (j 1)),
    fun c => fun j : S32768.Idx => BitVec.ofNat 32 (near c (j 0)).val,
    fun c => fun _ : S_.Idx => Ideal.div (Cert.Vq.total (Cert.Vq.rows m c) (Cert.Vq.codes m c) (near c)) (Ideal.ofBits .f32 0x4A000000#32)
      + Ideal.ofBits .f32 0x3E800000#32
        * Ideal.div (Cert.Vq.total (Cert.Vq.rows m c) (Cert.Vq.codes m c) (near c)) (Ideal.ofBits .f32 0x4A000000#32), ?_, ?_⟩
  · refine θ_run_mono (Cert.Vq.kernel_run m g near hnear) fun r hr c => ?_
    obtain ⟨hq, hn, hl, h0, h1⟩ := hr c
    exact ⟨hq, hq, hn, hl, h0, h1⟩
  · refine θ_run_mono (Cert.Vq.reference_run m' g') fun r hr c => ?_
    obtain ⟨hn, hq, hl, hs, h0, h1⟩ := hr c
    obtain ⟨a0, a1⟩ := hagree c
    rw [a0, a1] at hn hq hl hs
    rw [Cert.Vq.numbers_apply (hnear c)] at hn hq hl hs
    rw [Cert.Vq.taken_apply] at hq hl hs
    rw [Cert.Vq.straight_apply _ _ (known c).2] at hs
    exact ⟨hs, hq, hn, hl.trans (funext fun j => Cert.Vq.loss_apply _ _ (known c).2 j), h0, h1⟩

end Cert.Proof

end
